-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0x7F61B1E6#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x16 : Shape := ⟨2, ![1024, 16]⟩
abbrev S1000000x16 : Shape := ⟨2, ![1000000, 16]⟩
abbrev S8192 : Shape := ⟨1, ![8192]⟩
abbrev S1x8192 : Shape := ⟨2, ![1, 8192]⟩
abbrev S1024x1 : Shape := ⟨2, ![1024, 1]⟩
abbrev S8192x16 : Shape := ⟨2, ![8192, 16]⟩
abbrev S1024x128 : Shape := ⟨2, ![1024, 128]⟩
abbrev S8192x1 : Shape := ⟨2, ![8192, 1]⟩
abbrev S1024 : Shape := ⟨1, ![1024]⟩
abbrev S1024x8192 : Shape := ⟨2, ![1024, 8192]⟩
abbrev S1x128 : Shape := ⟨2, ![1, 128]⟩

abbrev nBuf : Space → Nat
  | .hbm => 7
  | .vmem => 9
  | .smem => 0
  | _ => 0

abbrev bufTy : (tb : Table) → Fin (tcTables nBuf tb) → BufTy
  | .hbm, ⟨0, _⟩ => ⟨S1024x16, .f32⟩
  | .hbm, ⟨1, _⟩ => ⟨S1000000x16, .f32⟩
  | .hbm, ⟨2, _⟩ => ⟨S1024x16, .f32⟩
  | .hbm, ⟨3, _⟩ => ⟨S8192, .f32⟩
  | .hbm, ⟨4, _⟩ => ⟨S1x8192, .f32⟩
  | .hbm, ⟨5, _⟩ => ⟨S1024x1, .f32⟩
  | .hbm, ⟨6, _⟩ => ⟨S1024x1, .i32⟩
  | .local _ .vmem, ⟨0, _⟩ => ⟨S1024x16, .f32⟩
  | .local _ .vmem, ⟨1, _⟩ => ⟨S1024x16, .f32⟩
  | .local _ .vmem, ⟨2, _⟩ => ⟨S8192x16, .f32⟩
  | .local _ .vmem, ⟨3, _⟩ => ⟨S8192x16, .f32⟩
  | .local _ .vmem, ⟨4, _⟩ => ⟨S1x8192, .f32⟩
  | .local _ .vmem, ⟨5, _⟩ => ⟨S1024x1, .f32⟩
  | .local _ .vmem, ⟨6, _⟩ => ⟨S1024x1, .i32⟩
  | .local _ .vmem, ⟨7, _⟩ => ⟨S1024x128, .f32⟩
  | .local _ .vmem, ⟨8, _⟩ => ⟨S1024x128, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![123], ![false]⟩

def k0_cond3 (i : grid0.Coords) : BitVec 1 :=
  let arg0 : BitVec 32 := BitVec.ofNat 32 (i 0).val
  let c122_i32 : BitVec 32 := 122#32
  let v485 : BitVec 1 := Scalar.cmpi .eq arg0 c122_i32
  let v486 : BitVec 32 := Scalar.extui v485
  let c0_i32_15 : BitVec 32 := 0#32
  let v487 : BitVec 1 := Scalar.cmpi .ne v486 c0_i32_15
  v487

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "mask" => some ⊤
  | _ => none
-- ==== ReferenceIdeal.lean ====
abbrev S1024x16 : Shape := ⟨2, ![1024, 16]⟩
abbrev S1000000x16 : Shape := ⟨2, ![1000000, 16]⟩
abbrev S_ : Shape := ⟨0, ![]⟩
abbrev S1000000 : Shape := ⟨1, ![1000000]⟩
abbrev S1024 : Shape := ⟨1, ![1024]⟩
abbrev S1024x1 : Shape := ⟨2, ![1024, 1]⟩
abbrev S16x1000000 : Shape := ⟨2, ![16, 1000000]⟩
abbrev S1024x1000000 : Shape := ⟨2, ![1024, 1000000]⟩
abbrev S1x1000000 : Shape := ⟨2, ![1, 1000000]⟩

abbrev nBuf : Space → Nat
  | .hbm => 22
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S1000000x16, .f32⟩
  | .hbm, ⟨2, _⟩ => ⟨S1000000x16, .f32⟩
  | .hbm, ⟨3, _⟩ => ⟨S_, .f32⟩
  | .hbm, ⟨4, _⟩ => ⟨S1000000, .f32⟩
  | .hbm, ⟨5, _⟩ => ⟨S1024x16, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S16x1000000, .f32⟩
  | .hbm, ⟨10, _⟩ => ⟨S1024x1000000, .f32⟩
  | .hbm, ⟨11, _⟩ => ⟨S_, .f32⟩
  | .hbm, ⟨12, _⟩ => ⟨S1024x1000000, .f32⟩
  | .hbm, ⟨13, _⟩ => ⟨S1024x1000000, .f32⟩
  | .hbm, ⟨14, _⟩ => ⟨S1024x1000000, .f32⟩
  | .hbm, ⟨15, _⟩ => ⟨S1024x1000000, .f32⟩
  | .hbm, ⟨16, _⟩ => ⟨S1x1000000, .f32⟩
  | .hbm, ⟨17, _⟩ => ⟨S1024x1000000, .f32⟩
  | .hbm, ⟨18, _⟩ => ⟨S1024x1000000, .f32⟩
  | .hbm, ⟨19, _⟩ => ⟨S1024x1000000, .f32⟩
  | .hbm, ⟨20, _⟩ => ⟨S1024x1, .f32⟩
  | .hbm, ⟨21, _⟩ => ⟨S1024x1, .i32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_values : Ref sig .tc := ⟨.hbm, 20, rfl⟩
abbrev main_indices : Ref sig .tc := ⟨.hbm, 21, rfl⟩

abbrev nD : Nat := 1
abbrev τ : Topo := Topo.v7x

variable {F : FTy → Type} [FloatOps F]
-- ==== Proof.Tree.lean ====
module

public import proofs.«01_k».proof.Proof.Gen.KernelIdeal.Skeleton

@[expose] public section

/-! # The kernel's choice among 64 slices, as a tree

The body cuts its `1024 × 8192` block of distances and its `1 × 8192` row of column numbers into 64
slices of 128 lanes and pairs neighbours off, six times. Here the pairing is one function and the
tree six applications of it. -/

noncomputable section

namespace Cert.KernelIdeal.Nn

open Cert.KernelIdeal Cert.KernelIdeal.Gen
open Idealize.ShloMosaic Idealize.SL.Sem

variable {F : FTy → Type} [FloatOps F] [Named F]

/-- A distance and a column number in every lane of every query. -/
abbrev Best (F : FTy → Type) := FVec F S1024x128 .f32 × FVec F S1024x128 .f32

/-- The better of two candidates, lane by lane: the second where its distance is strictly less. -/
def better (p q : Best F) : Best F :=
  (minimumf p.1 q.1, select (cmpf .olt q.1 p.1) q.2 p.2)

/-- One level of the tree: of `2 n` candidates the better of each neighbouring pair. -/
def level {n : ℕ} (f : (j : ℕ) → j < 2 * n → Best F) (j : ℕ) (hj : j < n) : Best F :=
  better (f (2 * j) (by omega)) (f (2 * j + 1) (by omega))

/-- A group of 128 columns of the distances lies inside them. -/
theorem slices_d (j : ℕ) (hj : j < 64) : S1024x8192.Slices ![0, 128 * j] S1024x128 := by
  refine ⟨rfl, fun a => ?_⟩
  match a with
  | ⟨0, _⟩ => show 0 + 1024 ≤ 1024; omega
  | ⟨1, _⟩ => show 128 * j + 128 ≤ 8192; omega

/-- A group of 128 column numbers lies inside them. -/
theorem slices_g (j : ℕ) (hj : j < 64) : S1x8192.Slices ![0, 128 * j] S1x128 := by
  refine ⟨rfl, fun a => ?_⟩
  match a with
  | ⟨0, _⟩ => show 0 + 1 ≤ 1; omega
  | ⟨1, _⟩ => show 128 * j + 128 ≤ 8192; omega

/-- A row of 128 lanes can be repeated for every query. -/
theorem lanes_bcast : S1x128.Broadcasts S1024x128 := by decide

/-- Slice `j` of the distances, with slice `j` of the column numbers under every query. -/
def leaf (d : FVec F S1024x8192 .f32) (g : FVec F S1x8192 .f32) (j : ℕ) (hj : j < 64) : Best F :=
  (extractStridedSlice S1024x128 ![0, 128 * j] d (slices_d j hj),
    broadcastTo S1024x128 (shapeCast S1x128 (extractStridedSlice S1x128 ![0, 128 * j] g (slices_g j hj))
      shapeCasts_S1x128_S1x128) lanes_bcast)

/-- The whole tree. -/
def best (d : FVec F S1024x8192 .f32) (g : FVec F S1x8192 .f32) : Best F :=
  level (n := 1) (level (n := 2) (level (n := 4) (level (n := 8) (level (n := 16) (level (n := 32)
    (leaf d g)))))) 0 (by omega)

end Cert.KernelIdeal.Nn

end
-- ==== Proof.Run.lean ====
module

public import proofs.«01_k».proof.Proof.Tree
public import proofs.«01_k».proof.Proof.Gen.KernelIdeal.Frame
public import Idealize.ShloMosaic.Lib.VecWindow
public import Idealize.ShloMosaic.Lib.Pipeline.FrameBody
public import Idealize.ShloMosaic.Lib.Pipeline.Value

@[expose] public section

set_option maxRecDepth 16384

/-! # What one grid point does

The idealized body on whole staging buffers: what it leaves in the two scratch buffers and, at the
last point, in the two outputs. -/

noncomputable section

namespace Cert.KernelIdeal.Nn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first branch of the body is taken: the scratch is set. -/
abbrev isFirst (i : grid0.Coords) : Prop :=
  (Scalar.cmpi .ne (Scalar.extui (Scalar.cmpi .eq (BitVec.ofNat 32 (i 0).val) 0#32)) 0#32) = 1#1

/-- The second branch is taken: the scratch is compared with the block. -/
abbrev isLater (i : grid0.Coords) : Prop :=
  (Scalar.cmpi .ne (Scalar.extui (Scalar.cmpi .sgt (BitVec.ofNat 32 (i 0).val) 0#32)) 0#32) = 1#1

/-- The third branch is taken: the outputs are written. -/
abbrev isLast (i : grid0.Coords) : Prop := k0_cond3 i = 1#1

/-- The block's candidates at point `i`, from the contents of the four input buffers. -/
def blockBest (i : grid0.Coords) (x0 x1 : Vec F S1024x16 .f32) (x2 : Vec F S8192x16 .f32)
    (x3 : Vec F S1x8192 .f32) : Best F :=
  best (k0_pay13 i x0 x1 x2) (k0_pay14 i x3)

/-- The scratch after point `i`: the block's candidates at the first point, after that the better of
    the old ones and the block's. -/
def nextBest (i : grid0.Coords) (old b : Best F) : Best F := if isLater i then better old b else b

set_option maxHeartbeats 4000000 in
/-- One grid point: the inputs stay, the scratch goes from `old` to `nextBest`, and the outputs are
    written at the last point only. -/
theorem point_run (c : Dev nD) (i : grid0.Coords)
    (arg1 : Memref sig .tc .vmem S1024x16 .f32) (harg1 : arg1.IsWhole)
    (arg2 : Memref sig .tc .vmem S1024x16 .f32) (harg2 : arg2.IsWhole)
    (arg3 : Memref sig .tc .vmem S8192x16 .f32) (harg3 : arg3.IsWhole)
    (arg4 : Memref sig .tc .vmem S1x8192 .f32) (harg4 : arg4.IsWhole)
    (arg5 : Memref sig .tc .vmem S1024x1 .f32) (harg5 : arg5.IsWhole)
    (arg6 : Memref sig .tc .vmem S1024x1 .i32) (harg6 : arg6.IsWhole)
    (arg7 : Memref sig .tc .vmem S1024x128 .f32) (harg7 : arg7.IsWhole)
    (arg8 : Memref sig .tc .vmem S1024x128 .f32) (harg8 : arg8.IsWhole)
    (hfl : isFirst i ↔ ¬ isLater i) (hll : isLast i → isLater i)
    (x0 x1 : Vec F S1024x16 .f32) (x2 : Vec F S8192x16 .f32) (x3 : Vec F S1x8192 .f32)
    (x4 : Vec F S1024x1 .f32) (x5 : Vec F S1024x1 .i32)
    (old new : Best F) (hnew : new = nextBest i old (blockBest i x0 x1 x2 x3))
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare old.1 ∗ owns (c : Thread nD τ) arg8 fullShare old.2
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (if isLast i then k0_pay11 new.1 else x4)
            ∗ owns (c : Thread nD τ) arg6 fullShare (if isLast i then k0_pay12 new.1 new.2 else x5)
            ∗ owns (c : Thread nD τ) arg7 fullShare new.1
            ∗ owns (c : Thread nD τ) arg8 fullShare new.2) -∗ K ⟨⟩))
      ⊢ wp frame (wpE (defs₀ (F := F)) Variants.none c none) E
          (cc0__knn_step i arg1 harg1 arg2 harg2 arg3 harg3 arg4 harg4 arg5 harg5 arg6 harg6 arg7 harg7 arg8 harg8) K := by
  simp only [cc0__knn_step_eq_skeleton]; unfold cc0__knn_step_skel
  simp only [k0_part1_eq_skeleton, k0_part2_eq_skeleton, k0_part3_eq_skeleton, k0_part4_eq_skeleton,
    k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩,
    ⟨%f5, %hf5, H5⟩, ⟨%g0, %hg0, S0⟩, ⟨%g1, %hg1, S1⟩, Hk⟩
  obtain rfl := harg1.eq_unread hf0; obtain rfl := harg2.eq_unread hf1
  obtain rfl := harg3.eq_unread hf2; obtain rfl := harg4.eq_unread hf3
  obtain rfl := harg5.eq_unread hf4; obtain rfl := harg6.eq_unread hf5
  obtain rfl := harg7.eq_unread hg0; obtain rfl := harg8.eq_unread hg1
  have hb : best (k0_pay13 i
        (View.readAt (Elt F) arg1.view (Rect.unit ![0, 0] ![1024, 16] inb_S1024x16_S1024x16_0_0).toLoadRect (harg1.unread x0))
        (View.readAt (Elt F) arg2.view (Rect.unit ![0, 0] ![1024, 16] inb_S1024x16_S1024x16_0_0).toLoadRect (harg2.unread x1))
        (View.readAt (Elt F) arg3.view (Rect.unit ![0, 0] ![8192, 16] inb_S8192x16_S8192x16_0_0).toLoadRect (harg3.unread x2)))
      (k0_pay14 i
        (View.readAt (Elt F) arg4.view (Rect.unit ![0, 0] ![1, 8192] inb_S1x8192_S1x8192_0_0).toLoadRect (harg4.unread x3)))
      = blockBest i x0 x1 x2 x3 := by
    rw [View.readAt_full, View.readAt_full, View.readAt_full, View.readAt_full, hf0, hf1, hf2, hf3]; rfl
  have ho1 : View.readAt (Elt F) arg7.view (Rect.unit ![0, 0] ![1024, 128] inb_S1024x128_S1024x128_0_0).toLoadRect
      (harg7.unread old.1) = old.1 := by rw [View.readAt_full, hg0]
  have ho2 : View.readAt (Elt F) arg8.view (Rect.unit ![0, 0] ![1024, 128] inb_S1024x128_S1024x128_0_0).toLoadRect
      (harg8.unread old.2) = old.2 := by rw [View.readAt_full, hg1]
  have hcases : (isFirst i ∧ ¬ isLater i ∧ ¬ isLast i) ∨ (¬ isFirst i ∧ isLater i ∧ ¬ isLast i)
      ∨ (¬ isFirst i ∧ isLater i ∧ isLast i) := by tauto
  rw [← hb] at hnew
  obtain ⟨hc0, hc1, hc2⟩ | ⟨hc0, hc1, hc2⟩ | ⟨hc0, hc1, hc2⟩ := hcases <;>
  ( first
    | rw [nextBest, if_pos hc1] at hnew
    | rw [nextBest, if_neg hc1] at hnew
    sl_exec (disch := first | sl_exact hc0 | sl_exact hc1 | sl_exact hc2)
    sl_step
    iapply Hk
    have hs1 : ∀ (a b : FVec F S1024x128 .f32) h, a = b → shapeCast S1024x128 a h = b :=
      fun a b h hab => (shapeCast_self a h).trans hab
    have hm : ∀ r x : FVec F S1024x128 .f32, r = old.1 → minimumf r x = minimumf old.1 x :=
      fun r x h => by rw [h]
    have hw : ∀ r s x y : FVec F S1024x128 .f32, r = old.1 → s = old.2 →
        select (cmpf .olt x r) y s = select (cmpf .olt x old.1) y old.2 :=
      fun r s x y h k => by rw [h, k]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      first
      | exact (if_neg hc2).symm ▸ hf4
      | rw [if_pos hc2, hnew]
        refine (View.read_writes_full _ _ _ _ _).trans (congrArg k0_pay11 ?_)
        refine (View.readCov_full _ _ _ _ _).trans (hs1 _ _ _ ?_)
        exact hm _ _ rfl
    isplitl [H5]
    · iexists _; isplitr; swap; · iexact H5
      ipureintro
      first
      | exact (if_neg hc2).symm ▸ hf5
      | rw [if_pos hc2, hnew]
        refine (View.read_writes_full _ _ _ _ _).trans (congrArg₂ k0_pay12 ?_ ?_)
        · refine (View.readCov_full _ _ _ _ _).trans (hs1 _ _ _ ?_)
          exact hm _ _ rfl
        · refine (View.readCov_full _ _ _ _ _).trans (hs1 _ _ _ ?_)
          exact hw _ _ _ _ rfl rfl
    isplitl [S0]
    · iexists _; isplitr; swap; · iexact S0
      ipureintro
      rw [hnew]
      refine (View.read_writes_full _ _ _ _ _).trans (hs1 _ _ _ ?_)
      first | exact hm _ _ ho1 | exact hm _ _ rfl | rfl
    · iexists _; isplitr; swap; · iexact S1
      ipureintro
      rw [hnew]
      refine (View.read_writes_full _ _ _ _ _).trans (hs1 _ _ _ ?_)
      first | exact hw _ _ _ _ ho1 ho2 | rfl )

end Cert.KernelIdeal.Nn

end
-- ==== Proof.Fill.lean ====
module

public import proofs.«01_k».proof.Proof.Run
public import Idealize.ShloMosaic.Lib.Pointwise.Tactic
public import Idealize.ShloMosaic.Lib.Pointwise.Select
public import Idealize.ShloMosaic.Lib.Pointwise.IndexVar
public import Idealize.ShloMosaic.Lib.Pointwise.Reshape
public import Idealize.ShloMosaic.Lib.WordCmp

@[expose] public section

set_option maxRecDepth 16384

/-! # The rows past the end of the codebook do not matter

The last block of the codebook overhangs it, so the rest of the buffer holds whatever was there. The
kernel replaces those rows by zero before it computes with them. -/

noncomputable section

namespace Cert.KernelIdeal.Nn

open Cert.KernelIdeal Cert.KernelIdeal.Gen
open Idealize.ShloMosaic

variable {F : FTy → Type} [FloatOps F] [Named F]

/-- The mask of the codebook's rows at a point: row `r` of the block lies inside the codebook. -/
def inside (i : grid0.Coords) : IVec S8192x1 1 :=
  cmpi .slt (addi (broadcast S8192x1 (Scalar.muli (BitVec.ofNat 32 (i 0).val) 8192#32))
    (iota .tc S8192x1 32 [0] iota_S8192x1_d0_w32)) (broadcast S8192x1 1000000#32)

/-- The rows of a block the copy moves: all 8192, or what is left of the codebook. -/
theorem rows_moved : ∀ t : Fin cfg0.N,
    win0_2.xsize (grid0.coords t) 0 = min 8192 (1000000 - 8192 * t.val) ∧ win0_2.xsize (grid0.coords t) 1 = 16 := by
  decide +kernel

/-- The grid's one coordinate at point `t` is `t`. -/
theorem coord (t : Fin cfg0.N) : (grid0.coords t 0).val = t.val := by
  have e0 : (grid0.coords t 0).val = t.val / 1 % 123 := Pipeline.Grid.coords_val t 0 (by decide) rfl
  have hN : t.val < 123 := lt_of_lt_of_eq t.isLt (show cfg0.N = 123 from N_0)
  rw [e0]; omega

/-- The kernel's word for row `r` of block `n` is the number `8192 n + r`. -/
theorem block_row (n r : ℕ) : IntOp.addi (Scalar.muli (BitVec.ofNat 32 n) 8192#32) (BitVec.ofNat 32 r)
    = BitVec.ofNat 32 (8192 * n + r) := by
  have e : Scalar.muli (BitVec.ofNat 32 n) 8192#32 = BitVec.ofNat 32 (8192 * n) := by
    change BitVec.ofNat 32 n * BitVec.ofNat 32 8192 = _
    rw [← BitVec.ofNat_mul, Nat.mul_comm]
  rw [e]
  change BitVec.ofNat 32 (8192 * n) + BitVec.ofNat 32 r = _
  rw [← BitVec.ofNat_add]

/-- The mask at row `r` of block `t` is set exactly when the row's number is below a million. -/
theorem inside_iff (t : Fin cfg0.N) (r : Fin 8192) :
    inside (grid0.coords t) (ix2 r 0) = 1#1 ↔ 8192 * t.val + r.val < 1000000 := by
  have hN : t.val < 123 := lt_of_lt_of_eq t.isLt (show cfg0.N = 123 from N_0)
  have hr := r.isLt
  unfold inside
  pointwise
  rw [coord, block_row t.val r.val]
  exact WordCmp.cmpi_slt_ofNat_eq_one_iff (by omega) (by omega)

/-- The rows the kernel computes with: the buffer's inside the codebook, zero past its end. -/
def masked (i : grid0.Coords) (x2 : Vec F S8192x16 .f32) : Vec F S8192x16 .f32 :=
  select (broadcastTo S8192x16 (shapeCast S8192x1 (inside i) shapeCasts_S8192x1_S8192x1) broadcasts_S8192x1_S8192x16) x2
    (broadcast S8192x16 (Scalar.ofBits .f32 0x00000000#32))

/-- The masked rows at an index. -/
theorem masked_apply (i : grid0.Coords) (x2 : Vec F S8192x16 .f32) (r : Fin 8192) (k : Fin 16) :
    masked i x2 (ix2 r k) = Scalar.select (inside i (ix2 r 0)) (x2 (ix2 r k)) (Scalar.ofBits .f32 0x00000000#32) := by
  unfold masked
  generalize inside i = b
  pointwise

/-- The masked rows do not depend on what lies in the buffer past the codebook's end. -/
theorem masked_fill (t : Fin cfg0.N) (d d' : Vec F S8192x16 .f32)
    (g : (win0_2.xblock (grid0.coords t)).Idx → F .f32) :
    masked (grid0.coords t) (win0_2.fill (grid0.coords t) d g) = masked (grid0.coords t) (win0_2.fill (grid0.coords t) d' g) := by
  funext j
  idx_vars j
  rw [masked_apply, masked_apply]
  by_cases h : inside (grid0.coords t) (ix2 j0 0) = 1#1
  · rw [inside_iff] at h
    have hm : win0_2.moved (grid0.coords t) (ix2 j0 j1) = true := by
      rw [Pipeline.Window.moved_iff]
      intro a
      fin_cases a
      · have := (rows_moved t).1; have := j0.isLt; simp; omega
      · have := (rows_moved t).2; have := j1.isLt; simp; omega
    unfold Pipeline.Window.fill
    rw [dif_pos hm, dif_pos hm]
  · unfold Scalar.select
    exact (if_neg h).trans (if_neg h).symm

/-- The block's candidates do not depend on what lies in the buffer past the codebook's end. -/
theorem blockBest_fill (t : Fin cfg0.N) (x0 x1 : Vec F S1024x16 .f32) (x3 : Vec F S1x8192 .f32)
    (d d' : Vec F S8192x16 .f32) (g : (win0_2.xblock (grid0.coords t)).Idx → F .f32) :
    blockBest (grid0.coords t) x0 x1 (win0_2.fill (grid0.coords t) d g) x3
      = blockBest (grid0.coords t) x0 x1 (win0_2.fill (grid0.coords t) d' g) x3 := by
  have h : k0_pay13 (grid0.coords t) x0 x1 (win0_2.fill (grid0.coords t) d g)
      = k0_pay13 (grid0.coords t) x0 x1 (win0_2.fill (grid0.coords t) d' g) := by
    have e := masked_fill t d d' g
    unfold masked inside at e
    unfold k0_pay13
    dsimp only
    rw [e]
  unfold blockBest
  rw [h]

end Cert.KernelIdeal.Nn

end
-- ==== Proof.Frame.lean ====
module

public import proofs.«01_k».proof.Proof.Fill
public import Idealize.ShloMosaic.Lib.Claim

@[expose] public section

set_option maxRecDepth 16384

/-! # The launch

The scratch after each grid point as a function of the arrays, the pipeline's proof data over it, and the
run of the whole program. -/

noncomputable section

namespace Cert.KernelIdeal.Nn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## When the branches are taken -/

/-- The first branch and the second exclude each other, and one of them is taken. -/
theorem first_iff : ∀ t : Fin cfg0.N, isFirst (grid0.coords t) ↔ ¬ isLater (grid0.coords t) := by decide +kernel

/-- The second branch is taken at every point but the first. -/
theorem later_iff : ∀ t : Fin cfg0.N, isLater (grid0.coords t) ↔ t.val ≠ 0 := by decide +kernel

/-- The third branch is taken at the last point. -/
theorem last_iff : ∀ t : Fin cfg0.N, isLast (grid0.coords t) ↔ t.val = 122 := by decide +kernel

/-- Where the third branch is not taken, both outputs are idle and neither is written back. -/
theorem idle_out : ∀ t : Fin cfg0.N, ¬ isLast (grid0.coords t) →
    (cfg0.idle 4 (grid0.coords t) = true ∧ (cfg0.win 4).flush t = false)
    ∧ (cfg0.idle 5 (grid0.coords t) = true ∧ (cfg0.win 5).flush t = false) := by decide +kernel

/-- Where the third branch is taken, neither output is idle. -/
theorem live_out : ∀ t : Fin cfg0.N, isLast (grid0.coords t) →
    cfg0.idle 4 (grid0.coords t) = false ∧ cfg0.idle 5 (grid0.coords t) = false := by decide +kernel

/-! ## The scratch after each point -/

/-- The codebook's block at point `t` in a whole buffer, zero past the codebook's end. -/
def rows (c : Dev nD) (t : Fin cfg0.N) : Vec F S8192x16 .f32 :=
  win0_2.fill (grid0.coords t) (broadcast S8192x16 (Scalar.ofBits .f32 0x00000000#32)) (iblk m c 2 t)

/-- The candidates of point `t`'s block. -/
def cand (c : Dev nD) (t : Fin cfg0.N) : Best F :=
  blockBest (grid0.coords t) (iblk m c 0 t) (iblk m c 1 t) (rows m c t) (iblk m c 3 t)

/-- The scratch after `n` points. Before the first it is of no account. -/
def acc (c : Dev nD) : ℕ → Best F
  | 0 => (broadcast S1024x128 (Scalar.ofBits .f32 0x00000000#32), broadcast S1024x128 (Scalar.ofBits .f32 0x00000000#32))
  | n + 1 => if h : n < cfg0.N then nextBest (grid0.coords ⟨n, h⟩) (acc c n) (cand m c ⟨n, h⟩) else acc c n

/-- The scratch after point `t` from the scratch before it. -/
theorem acc_succ (c : Dev nD) (t : Fin cfg0.N) :
    acc m c (t.val + 1) = nextBest (grid0.coords t) (acc m c t.val) (cand m c t) := by
  rw [acc, dif_pos t.isLt]

/-! ## The proof data -/

/-- The two scratch buffers at given contents. -/
def holds (c : Dev nD) (b : Best F) : sProp 𝕄 :=
  iprop(owns (c : Thread nD τ) (Memref.whole cc0_scratch0) fullShare b.1
    ∗ owns (c : Thread nD τ) (Memref.whole cc0_scratch1) fullShare b.2)

/-- The invariant after `n` points: before the first the scratch at anything, after that at `acc`. -/
def inv (c : Dev nD) (n : ℕ) : sProp 𝕄 :=
  if n = 0 then Pipeline.ΦA spec0 c else iprop(holds c (acc m c n) ∗ (∃ r, prngReg c r))

/-- What the launch hands over: the scratch at anything and the generator's register. -/
theorem start_eq (c : Dev nD) : (Pipeline.ΦA spec0 c : sProp 𝕄)
    = iprop(iprop((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

/-- The proof data: the arrays as the region finds them; an input's buffer keeps its block; the outputs
    get the last point's results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rows m c t
    | ⟨3, _⟩ => iblk m c 3 t
    | ⟨4, _⟩ => k0_pay11 (acc m c (t.val + 1)).1
    | ⟨5, _⟩ => k0_pay12 (acc m c (t.val + 1)).1 (acc m c (t.val + 1)).2
  Φ t := inv m c t.val
  q _ := fullShare
  owed _ := 0

/-- The proof data's arrays are the contents at the region's entry. -/
theorem dats_A (c : Dev nD) (w : Fin cfg0.W) : (dats m 0 c).A w = V m c (Pipeline.arrRef spec0 w) := by
  dsimp only [dats]

/-- What the proof data says each buffer holds after a point. -/
theorem dats_after (c : Dev nD) (t : Fin cfg0.N) :
    (dats m 0 c).after 0 t = iblk m c 0 t ∧ (dats m 0 c).after 1 t = iblk m c 1 t
      ∧ (dats m 0 c).after 2 t = rows m c t ∧ (dats m 0 c).after 3 t = iblk m c 3 t
      ∧ (dats m 0 c).after 4 t = k0_pay11 (acc m c (t.val + 1)).1
      ∧ (dats m 0 c).after 5 t = k0_pay12 (acc m c (t.val + 1)).1 (acc m c (t.val + 1)).2 := by
  dsimp only [dats]; exact ⟨rfl, rfl, rfl, rfl, rfl, rfl⟩

/-- The buffer of the codebook before a point: its block over what was there. -/
theorem before_rows (c : Dev nD) (t : Fin cfg0.N) (d) :
    (dats m 0 c).before 2 t d = win0_2.fill (grid0.coords t) d (iblk m c 2 t) := by
  unfold Dat.before; rw [if_pos (fetch0_2 t)]; rfl

/-- Before a point the scratch holds something from which the point makes `acc`, whatever lies in the
    codebook's buffer past the end. -/
theorem inv_open (c : Dev nD) (t : Fin cfg0.N) :
    inv m c t.val ⊢ (iprop(∃ old : Best F, ⌜acc m c (t.val + 1) = nextBest (grid0.coords t) old (cand m c t)⌝
      ∗ holds c old ∗ (∃ r, prngReg c r)) : sProp 𝕄) := by
  unfold inv
  by_cases hz : t.val = 0
  · rw [if_pos hz, start_eq]
    iintro ⟨⟨⟨%a, Ha⟩, ⟨%b, Hb⟩⟩, Hr⟩
    iexists ((a, b) : Best F)
    isplitr
    · ipureintro
      have hl : ¬ isLater (grid0.coords t) := fun h => (later_iff t).mp h hz
      rw [acc_succ]; unfold nextBest; rw [if_neg hl, if_neg hl]
    isplitl [Ha Hb]
    · unfold holds; isplitl [Ha]
      · iexact Ha
      iexact Hb
    iexact Hr
  · rw [if_neg hz]
    iintro ⟨Hs, Hr⟩
    iexists (acc m c t.val)
    isplitr
    · ipureintro; exact acc_succ m c t
    isplitl [Hs]; · iexact Hs
    iexact Hr

/-- After the body output 4's buffer is as the pipeline asks. -/
theorem leaves_val (c : Dev nD) (t : Fin cfg0.N) (d) :
    owns (c : Thread nD τ) (win0_4.stage (cfg0.slots t 4)) fullShare
        (if isLast (grid0.coords t) then k0_pay11 (acc m c (t.val + 1)).1 else (dats m 0 c).before 4 t d)
      ⊢ ((dats m 0 c).leaves 4 t : sProp 𝕄) := by
  by_cases hl : isLast (grid0.coords t)
  · rw [if_pos hl]; unfold Dat.leaves; rw [(live_out t hl).1, (dats_after m c t).2.2.2.2.1]
  · rw [if_neg hl, Dat.leaves_idle (dats m 0 c) 4 t (idle_out t hl).1.1 (idle_out t hl).1.2]
    iintro H; iexists d; iexact H

/-- After the body output 5's buffer is as the pipeline asks. -/
theorem leaves_idx (c : Dev nD) (t : Fin cfg0.N) (d) :
    owns (c : Thread nD τ) (win0_5.stage (cfg0.slots t 5)) fullShare
        (if isLast (grid0.coords t) then k0_pay12 (acc m c (t.val + 1)).1 (acc m c (t.val + 1)).2
          else (dats m 0 c).before 5 t d)
      ⊢ ((dats m 0 c).leaves 5 t : sProp 𝕄) := by
  by_cases hl : isLast (grid0.coords t)
  · rw [if_pos hl]; unfold Dat.leaves; rw [(live_out t hl).2, (dats_after m c t).2.2.2.2.2]
  · rw [if_neg hl, Dat.leaves_idle (dats m 0 c) 5 t (idle_out t hl).2.1 (idle_out t hl).2.2]
    iintro H; iexists d; iexact H

/-- After the body the codebook's buffer is as the pipeline asks: named where the copy wrote it. -/
theorem leaves_rows (c : Dev nD) (t : Fin cfg0.N) (d) :
    owns (c : Thread nD τ) (win0_2.stage (cfg0.slots t 2)) fullShare
        (win0_2.fill (grid0.coords t) d (iblk m c 2 t))
      ⊢ ((dats m 0 c).leaves 2 t : sProp 𝕄) := by
  change _ ⊢ iprop(∃ d, owns (c : Thread nD τ) (win0_2.stage (cfg0.slots t 2)) fullShare
    (win0_2.fill (grid0.coords t) d (win0_2.cut (grid0.coords t) ((dats m 0 c).after 2 t))))
  rw [(dats_after m c t).2.2.1]
  iintro H; iexists d
  rw [show win0_2.cut (grid0.coords t) (rows m c t) = iblk m c 2 t from Window.cut_fill _ _ _ _]
  iexact H

/-- The buffers of the two inputs that stay and of the column numbers hold their blocks before a point. -/
theorem before_kept (c : Dev nD) (t : Fin cfg0.N) :
    (∀ d, (dats m 0 c).before 0 t d = iblk m c 0 t) ∧ (∀ d, (dats m 0 c).before 1 t d = iblk m c 1 t)
      ∧ (∀ d, (dats m 0 c).before 3 t d = iblk m c 3 t) :=
  ⟨before0_0_of m (dats m 0 c) (dats_A m c 0) (fun t => (dats_after m c t).1) t,
    before0_1_of m (dats m 0 c) (dats_A m c 1) (fun t => (dats_after m c t).2.1) t,
    before0_3_of m (dats m 0 c) (dats_A m c 3) (fun t => (dats_after m c t).2.2.2.1) t⟩

/-- After the body the other inputs' buffers are as the pipeline asks. -/
theorem leaves_kept (c : Dev nD) (t : Fin cfg0.N) :
    ((dats m 0 c).leaves 0 t : sProp 𝕄) = owns (c : Thread nD τ) (win0_0.stage (cfg0.slots t 0)) fullShare (iblk m c 0 t)
    ∧ ((dats m 0 c).leaves 1 t : sProp 𝕄) = owns (c : Thread nD τ) (win0_1.stage (cfg0.slots t 1)) fullShare (iblk m c 1 t)
    ∧ ((dats m 0 c).leaves 3 t : sProp 𝕄) = owns (c : Thread nD τ) (win0_3.stage (cfg0.slots t 3)) fullShare (iblk m c 3 t) := by
  have h := dats_after m c t
  refine ⟨?_, ?_, ?_⟩
  · rw [← h.1]
  · rw [← h.2.1]
  · rw [← h.2.2.2.1]

/-- What the body is handed at a point. -/
def given (c : Dev nD) (t : Fin cfg0.N) : sProp 𝕄 :=
  iprop(inv m c t.val ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- What the body hands back. -/
def back (c : Dev nD) (t : Fin cfg0.N) : sProp 𝕄 :=
  iprop(inv m c (t.val + 1) ∗ (dats m 0 c).owesAt () t.castSucc
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

set_option maxHeartbeats 1600000 in
/-- The body at any point. -/
theorem body_at (c : Dev nD) (t : Fin cfg0.N) :
    given m c t ⊢ wp frame (wpE (defs₀ (F := F)) Variants.none c none) Set.univ (bodyAt0 t) (fun _ => back m c t) := by
  unfold given back bodyAt0
  simp only [(before_kept m c t).1, (before_kept m c t).2.1, (before_kept m c t).2.2, before_rows]
  rw [(leaves_kept m c t).1, (leaves_kept m c t).2.1, (leaves_kept m c t).2.2]
  iintro ⟨HI, Ho, ⟨%d0, H0⟩, ⟨%d1, H1⟩, ⟨%d2, H2⟩, ⟨%d3, H3⟩, ⟨%d4, H4⟩, ⟨%d5, H5⟩⟩
  ihave HI := (inv_open m c t) $$ HI
  icases HI with ⟨%old, %hold, HS, Hr⟩
  unfold holds
  icases HS with ⟨HS0, HS1⟩
  iapply (point_run c (grid0.coords t) _ _ _ _ _ _ _ _ _ _ _ _ _ _ _ _ (first_iff t)
    (fun h => (later_iff t).mpr (by have := (last_iff t).mp h; omega)) (iblk m c 0 t) (iblk m c 1 t)
    (win0_2.fill (grid0.coords t) d2 (iblk m c 2 t)) (iblk m c 3 t) ((dats m 0 c).before 4 t d4) ((dats m 0 c).before 5 t d5)
    old (acc m c (t.val + 1)) (by
      rw [hold]; unfold cand rows
      rw [blockBest_fill t _ _ _ d2]) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hr]
  · unfold inv; rw [if_neg (Nat.succ_ne_zero t.val)]
    unfold holds
    isplitl [HS0 HS1]
    · isplitl [HS0]; · iexact HS0
      iexact HS1
    iexact Hr
  isplitl [Ho]; · iexact Ho
  isplitl [H0]; · iexact H0
  isplitl [H1]; · iexact H1
  isplitl [H2]; · iapply (leaves_rows m c t d2); iexact H2
  isplitl [H3]; · iexact H3
  isplitl [H4]; · iapply (leaves_val m c t d4); iexact H4
  iapply (leaves_idx m c t d5); iexact H5

/-- The body at any point meets the pipeline's obligation. -/
theorem body_ok (c : Dev nD) :
    BodyObligationLoose (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body_at m c t) rfl .rfl fun _ => .rfl

/-! ## The run -/

/-- The launch hands over the invariant before the first point. -/
theorem inv_in (c : Dev nD) : Pipeline.ΦA spec0 c ⊢ (dats m 0 c).Φ 0 := by
  rw [show (dats m 0 c).Φ 0 = inv m c 0 from rfl]
  unfold inv
  rw [if_pos rfl]

/-- After the last point the invariant gives the scratch back. -/
theorem inv_out (c : Dev nD) : (dats m 0 c).Φ (Fin.last cfg0.N) ⊢ Pipeline.ΦA spec0 c := by
  rw [show (dats m 0 c).Φ (Fin.last cfg0.N) = inv m c cfg0.N from rfl, start_eq]
  unfold inv holds
  rw [if_neg (by rw [show cfg0.N = 123 from N_0]; decide)]
  iintro ⟨⟨H0, H1⟩, Hr⟩
  isplitl [H0 H1]
  · isplitl [H0]
    · iexists _; iexact H0
    iexists _; iexact H1
  iexact Hr

set_option backward.isDefEq.respectTransparency.types false in
/-- The whole program runs to its end: every array is what the proof data says, every counter zero. -/
theorem run : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_ok m) (hshare := fun c => (dats m 0 c).share_full fun _ => rfl)
    (howed := fun _ _ => rfl) (V := V m) (hmain := hmain m Variants.none) (hA := dats_A m)
    (hin := inv_in m) (hout := inv_out m)

/-- The program leaves its arguments unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (dats_A m) ((θ_run defs _ _).mono (fun _ h => h.1) (run m ρ)))
    ((θ_run defs _ _).mono (fun _ h => h.2) (run m ρ))

end Cert.KernelIdeal.Nn

end
-- ==== Proof.Blocks.lean ====
module

public import proofs.«01_k».proof.Proof.Frame
public import Idealize.ShloMosaic.Lib.Pipeline.ValueKit

@[expose] public section

set_option maxRecDepth 16384

/-! # What the inputs' blocks hold

Each input's block at a point, read off the arguments. -/

noncomputable section

namespace Cert.KernelIdeal.Nn

open Cert.KernelIdeal Cert.KernelIdeal.Gen
open Idealize.ShloMosaic Idealize.ShloMosaic.TcCoe Idealize.ShloMosaic.Tactic

variable {F : FTy → Type} [FloatOps F] [Named F]
variable (m : (ℓ : Loc nD τ sig) → Buf (Elt F) ℓ)

/-- Where each window's block lies at a point. -/
theorem block_index : ∀ t : Fin cfg0.N, win0_0.index t = ![0, 0] ∧ win0_1.index t = ![0, 0]
    ∧ win0_2.index t = ![t.val, 0] ∧ win0_3.index t = ![0, 0] := by decide +kernel

/-- The queries' block is the queries. -/
theorem block_queries (c : Dev nD) (t : Fin cfg0.N) (q : Fin 1024) (k : Fin 16) :
    iblk m c 0 t (ix2 q k) = m ((c : Thread nD τ).loc main_arg0) (ix2 q k) := by
  blk_ext [iblk, V, block_index t]

/-- The doubled queries' block is the queries, each added to itself. -/
theorem block_doubled (c : Dev nD) (t : Fin cfg0.N) (q : Fin 1024) (k : Fin 16) :
    iblk m c 1 t (ix2 q k) = addf (m ((c : Thread nD τ).loc main_arg0)) (m ((c : Thread nD τ).loc main_arg0)) (ix2 q k) := by
  blk_ext [iblk, V, block_index t]

/-- The column numbers' block is the numbers of the columns. -/
theorem block_columns (c : Dev nD) (t : Fin cfg0.N) (r : Fin 8192) :
    iblk m c 3 t (ix2 0 r) = FloatOps.sitofp .f32 (BitVec.ofNat 32 r.val) := by
  have e : ((win0_3.blk t).view.emb (ix2 0 r) 1).val = r.val := by blk_simp [block_index t]
  blk_simp [iblk]
  entry_read
  pointwise
  exact congrArg (fun n => FloatOps.sitofp .f32 (BitVec.ofNat 32 n)) e

/-- The codebook's block holds the codewords it covers. -/
theorem block_rows (c : Dev nD) (t : Fin cfg0.N) (r : Fin 8192) (k : Fin 16) (h : 8192 * t.val + r.val < 1000000) :
    rows m c t (ix2 r k) = m ((c : Thread nD τ).loc main_arg1) (ix2 ⟨8192 * t.val + r.val, h⟩ k) := by
  have hm : win0_2.moved (grid0.coords t) (ix2 r k) = true := by
    rw [Pipeline.Window.moved_iff]
    intro a
    fin_cases a
    · have := (rows_moved t).1; have := r.isLt; simp; omega
    · have := (rows_moved t).2; have := k.isLt; simp
  unfold rows Pipeline.Window.fill
  rw [dif_pos hm]
  blk_ext [iblk, V, block_index t]

end Cert.KernelIdeal.Nn

end
-- ==== Proof.Least.lean ====
module

public import Mathlib.Data.EReal.Operations

@[expose] public section

/-! # The first index of the least value

What it means that a value is the least over a set of indices and that an index is the first to take it;
how two consecutive sets combine; and the least value over a whole range read lane by lane. -/

namespace Nn

/-- `v` is the least value of `D` over `S`, and `n` the first index of `S` at which `D` takes it. -/
structure First (S : ℕ → Prop) (D : ℕ → EReal) (v : EReal) (n : ℕ) : Prop where
  mem : S n
  val : D n = v
  le : ∀ k, S k → v ≤ D k
  first : ∀ k, S k → D k = v → n ≤ k

/-- The value is the least over the set, and the entry is the number of the first index that takes it. -/
def Holds (S : ℕ → Prop) (D : ℕ → EReal) (v x : EReal) : Prop := ∃ n : ℕ, x = ((n : ℝ) : EReal) ∧ First S D v n

/-- There is one first index. -/
theorem First.unique {S : ℕ → Prop} {D : ℕ → EReal} {v w : EReal} {n k : ℕ} (h : First S D v n) (g : First S D w k) :
    n = k := by
  have e : v = w := le_antisymm (g.val ▸ h.le k g.mem) (h.val ▸ g.le n h.mem)
  subst e
  exact le_antisymm (h.first k g.mem g.val) (g.first n h.mem h.val)

/-- Two sets, all of the first before all of the second: the second wins only where it is strictly less. -/
theorem First.or {S T : ℕ → Prop} {D : ℕ → EReal} {v w : EReal} {n k : ℕ} (hST : ∀ a b, S a → T b → a < b)
    (h : First S D v n) (g : First T D w k) :
    First (fun a => S a ∨ T a) D (min v w) (if w < v then k else n) := by
  by_cases hw : w < v
  · rw [if_pos hw, min_eq_right hw.le]
    refine ⟨.inr g.mem, g.val, ?_, ?_⟩
    · rintro a (ha | ha)
      · exact hw.le.trans (h.le a ha)
      · exact g.le a ha
    · rintro a (ha | ha) hv
      · exact absurd hw (not_lt.mpr (hv ▸ h.le a ha))
      · exact g.first a ha hv
  · rw [if_neg hw, min_eq_left (not_lt.mp hw)]
    refine ⟨.inl h.mem, h.val, ?_, ?_⟩
    · rintro a (ha | ha)
      · exact h.le a ha
      · exact (not_lt.mp hw).trans (g.le a ha)
    · rintro a (ha | ha) hv
      · exact h.first a ha hv
      · exact (hST n a h.mem ha).le

/-- The same of values and entries. -/
theorem Holds.or {S T : ℕ → Prop} {D : ℕ → EReal} {v w x y : EReal} (hST : ∀ a b, S a → T b → a < b)
    (h : Holds S D v x) (g : Holds T D w y) :
    Holds (fun a => S a ∨ T a) D (min v w) (if w < v then y else x) := by
  obtain ⟨n, rfl, hn⟩ := h
  obtain ⟨k, rfl, hk⟩ := g
  refine ⟨if w < v then k else n, ?_, hn.or hST hk⟩
  split <;> rfl

/-- Only which indices are in the set matters. -/
theorem Holds.congr {S T : ℕ → Prop} {D : ℕ → EReal} {v x : EReal} (h : ∀ a, S a ↔ T a) (g : Holds S D v x) :
    Holds T D v x := by
  rwa [show T = S from funext fun a => propext (h a).symm]

/-- One index alone. -/
theorem Holds.single (D : ℕ → EReal) (n : ℕ) : Holds (fun a => a = n) D (D n) ((n : ℝ) : EReal) :=
  ⟨n, rfl, rfl, rfl, fun k hk => le_of_eq (hk ▸ rfl), fun k hk _ => le_of_eq hk.symm⟩

/-- Lane `l`'s indices in the groups of 128 numbered from `a` up to `b`. -/
def lane (l a b : ℕ) : ℕ → Prop := fun n => ∃ k, a ≤ k ∧ k < b ∧ n = 128 * k + l

/-- One group. -/
theorem lane_one (l a n : ℕ) : lane l a (a + 1) n ↔ n = 128 * a + l := by
  constructor
  · rintro ⟨k, h1, h2, rfl⟩
    rw [show k = a by omega]
  · rintro rfl
    exact ⟨a, le_rfl, Nat.lt_succ_self a, rfl⟩

/-- A lane's consecutive groups, joined. -/
theorem Holds.lane {D : ℕ → EReal} {v w x y : EReal} {l a b c : ℕ} (hab : a ≤ b) (hbc : b ≤ c)
    (h : Holds (Nn.lane l a b) D v x) (g : Holds (Nn.lane l b c) D w y) :
    Holds (Nn.lane l a c) D (min v w) (if w < v then y else x) := by
  refine (h.or ?_ g).congr fun n => ⟨?_, ?_⟩
  · rintro p q ⟨i, _, hi, rfl⟩ ⟨j, hj, _, rfl⟩
    omega
  · rintro (⟨k, h1, h2, rfl⟩ | ⟨k, h1, h2, rfl⟩)
    · exact ⟨k, h1, h2.trans_le hbc, rfl⟩
    · exact ⟨k, hab.trans h1, h2, rfl⟩
  · rintro ⟨k, h1, h2, rfl⟩
    by_cases hk : k < b
    · exact .inl ⟨k, h1, hk, rfl⟩
    · exact .inr ⟨k, not_lt.mp hk, h2, rfl⟩

/-- All the lanes together: the least of the lanes' values, and among the lanes that have it the least
    entry, belong to the first index of the whole range. -/
theorem first_of_lanes {D : ℕ → EReal} {N : ℕ} (v x : Fin 128 → EReal)
    (h : ∀ l : Fin 128, Holds (lane l.val 0 N) D (v l) (x l)) {u y : EReal}
    (hu : ∃ l, v l = u) (hle : ∀ l, u ≤ v l) (hy : ∃ l, (if v l = u then x l else ⊤) = y)
    (hyle : ∀ l, y ≤ if v l = u then x l else ⊤) :
    ∃ n : ℕ, y = ((n : ℝ) : EReal) ∧ First (fun a => a < 128 * N) D u n := by
  obtain ⟨l0, hl0⟩ := hu
  have hfin : y ≠ ⊤ := by
    obtain ⟨n, hn, _⟩ := h l0
    have := hyle l0
    rw [if_pos hl0, hn] at this
    exact ne_top_of_le_ne_top (EReal.coe_ne_top _) this
  obtain ⟨l1, hl1⟩ := hy
  by_cases hv : v l1 = u
  swap
  · rw [if_neg hv] at hl1; exact absurd hl1.symm hfin
  rw [if_pos hv] at hl1
  obtain ⟨n, hn, hf⟩ := h l1
  refine ⟨n, by rw [← hl1, hn], ?_, ?_, ?_, ?_⟩
  · obtain ⟨k, _, hk, rfl⟩ := hf.mem
    have := l1.isLt
    omega
  · rw [hf.val, hv]
  · intro k hk
    have hm : lane (k % 128) 0 N k := ⟨k / 128, Nat.zero_le _, by omega, by omega⟩
    obtain ⟨_, _, g⟩ := h ⟨k % 128, Nat.mod_lt _ (by norm_num)⟩
    exact (hle _).trans (g.le k hm)
  · intro k hk hku
    have hm : lane (k % 128) 0 N k := ⟨k / 128, Nat.zero_le _, by omega, by omega⟩
    obtain ⟨j, hj, g⟩ := h ⟨k % 128, Nat.mod_lt _ (by norm_num)⟩
    have hvk : v ⟨k % 128, Nat.mod_lt _ (by norm_num)⟩ = u := le_antisymm (hku ▸ g.le k hm) (hle _)
    have h1 := hyle ⟨k % 128, Nat.mod_lt _ (by norm_num)⟩
    rw [if_pos hvk, hj, ← hl1, hn] at h1
    have h2 : n ≤ j := by exact_mod_cast h1
    exact h2.trans (g.first k hm (hku.trans hvk.symm))

/-- Indices past `M`, at which the value is plus infinity, change nothing: the first index is one before `M`. -/
theorem First.shrink {D : ℕ → EReal} {u : EReal} {n M N : ℕ} (hM : 0 < M) (hMN : M ≤ N)
    (hD : ∀ k, M ≤ k → D k = ⊤) (h : First (fun a => a < N) D u n) : First (fun a => a < M) D u n := by
  have hn : n < M := by
    by_contra hc
    have hu : u = ⊤ := by rw [← h.val]; exact hD n (not_lt.mp hc)
    have h0 : D 0 = u := by
      have := h.le 0 (hM.trans_le hMN)
      rw [hu] at this ⊢
      exact top_le_iff.mp this
    have := h.first 0 (hM.trans_le hMN) h0
    omega
  exact ⟨hn, h.val, fun k hk => h.le k (lt_of_lt_of_le hk hMN), fun k hk => h.first k (lt_of_lt_of_le hk hMN)⟩

end Nn
-- ==== Proof.Lanes.lean ====
module

public import proofs.«01_k».proof.Proof.Fill
public import proofs.«01_k».proof.Proof.Least
public import Idealize.ShloMosaic.Lib.Pointwise.Reduce

@[expose] public section

set_option maxRecDepth 16384

/-! # The candidates of a block, lane by lane

At the extended reals: each lane's candidate after a block is the least distance of the lane's columns, with
the first column that has it; and the two outputs are read off the lanes. -/

noncomputable section

namespace Cert.KernelIdeal.Nn

open Cert.KernelIdeal Cert.KernelIdeal.Gen
open Idealize.ShloMosaic
open _root_.Nn (First Holds lane)

/-- A candidate at query `q` and lane `l` is the least of `D` over the lane's groups from `a` up to `b`. -/
abbrev At (D : ℕ → EReal) (q : Fin 1024) (l : Fin 128) (a b : ℕ) (p : Best Ideal) : Prop :=
  Holds (lane l.val a b) D (p.1 (ix2 q l)) (p.2 (ix2 q l))

/-- The better of two candidates at an index. -/
theorem better_at (p q : Best Ideal) (j : S1024x128.Idx) :
    (better p q).1 j = min (p.1 j) (q.1 j) ∧ (better p q).2 j = if q.1 j < p.1 j then q.2 j else p.2 j := by
  refine ⟨rfl, ?_⟩
  change Scalar.select (BitVec.ofBool (decide (q.1 j < p.1 j))) (q.2 j) (p.2 j) = _
  unfold Scalar.select
  by_cases h : q.1 j < p.1 j <;> simp [h]

/-- The better of two candidates over consecutive groups is the candidate over all of them. -/
theorem At.better {D : ℕ → EReal} {q : Fin 1024} {l : Fin 128} {a b c : ℕ} {p r : Best Ideal} (hab : a ≤ b) (hbc : b ≤ c)
    (h : At D q l a b p) (g : At D q l b c r) : At D q l a c (better p r) := by
  unfold At
  rw [(better_at p r _).1, (better_at p r _).2]
  exact Holds.lane hab hbc h g

/-- One level of the tree: candidates over `w` groups each become candidates over `2 w`. -/
theorem At.level {D : ℕ → EReal} {q : Fin 1024} {l : Fin 128} {n a w : ℕ} {f : (j : ℕ) → j < 2 * n → Best Ideal}
    (h : ∀ j hj, At D q l (a + w * j) (a + w * (j + 1)) (f j hj)) (j : ℕ) (hj : j < n) :
    At D q l (a + 2 * w * j) (a + 2 * w * (j + 1)) (level f j hj) := by
  have h0 := h (2 * j) (by omega)
  have h1 := h (2 * j + 1) (by omega)
  rw [show w * (2 * j) = 2 * w * j by ring, show w * (2 * j + 1) = 2 * w * j + w by ring] at h0
  rw [show w * (2 * j + 1) = 2 * w * j + w by ring, show w * (2 * j + 1 + 1) = 2 * w * (j + 1) by ring] at h1
  exact h0.better (by omega) (by rw [show 2 * w * (j + 1) = 2 * w * j + w + w by ring]; omega) h1

/-- Slice `j` of the distances and of the column numbers at an index. -/
theorem leaf_at (d : FVec Ideal S1024x8192 .f32) (g : FVec Ideal S1x8192 .f32) (j : ℕ) (hj : j < 64)
    (q : Fin 1024) (l : Fin 128) :
    (leaf d g j hj).1 (ix2 q l) = d (ix2 q ⟨128 * j + l.val, by omega⟩)
    ∧ (leaf d g j hj).2 (ix2 q l) = g (ix2 0 ⟨128 * j + l.val, by omega⟩) := by
  unfold leaf
  constructor
  · pointwise
  · pointwise

/-- The whole tree over the distances and column numbers of block `t`. -/
theorem best_at (D : ℕ → EReal) (d : FVec Ideal S1024x8192 .f32) (g : FVec Ideal S1x8192 .f32) (t : ℕ)
    (q : Fin 1024) (l : Fin 128)
    (hd : ∀ r : Fin 8192, d (ix2 q r) = D (8192 * t + r.val))
    (hg : ∀ r : Fin 8192, g (ix2 0 r) = (((8192 * t + r.val : ℕ) : ℝ) : EReal)) :
    At D q l (64 * t) (64 * (t + 1)) (best d g) := by
  have h0 : ∀ j hj, At D q l (64 * t + 1 * j) (64 * t + 1 * (j + 1)) (leaf d g j hj) := by
    intro j hj
    unfold At
    rw [(leaf_at d g j hj q l).1, (leaf_at d g j hj q l).2, hd, hg]
    have e : 8192 * t + (128 * j + l.val) = 128 * (64 * t + j) + l.val := by ring
    rw [e, one_mul, one_mul]
    refine (Holds.single D _).congr fun a => ?_
    rw [← add_assoc, _root_.Nn.lane_one]
  have h := At.level (n := 1) (At.level (n := 2) (At.level (n := 4) (At.level (n := 8) (At.level (n := 16)
    (At.level (n := 32) h0))))) 0 (by omega)
  norm_num at h
  unfold best
  rw [show 64 * (t + 1) = 64 * t + 64 by ring]
  exact h

end Cert.KernelIdeal.Nn

end
-- ==== Proof.Outs.lean ====
module

public import proofs.«01_k».proof.Proof.Lanes

@[expose] public section

set_option maxRecDepth 16384

/-! # The index written at the end -/

noncomputable section

namespace Cert.KernelIdeal.Nn

open Cert.KernelIdeal Cert.KernelIdeal.Gen
open Idealize.ShloMosaic

/-- A fold of minima from plus infinity is at most every entry and is one of them. -/
theorem fold_min {n : ℕ} (hn : 0 < n) (f : Fin n → EReal) :
    (∃ l, f l = Finset.univ.fold min ⊤ f) ∧ ∀ l, Finset.univ.fold min ⊤ f ≤ f l := by
  have e : Finset.univ.fold min ⊤ f = Finset.univ.inf f := rfl
  rw [e]
  refine ⟨?_, fun l => Finset.inf_le (Finset.mem_univ l)⟩
  obtain ⟨l, _, hl⟩ := Finset.exists_mem_eq_inf Finset.univ ⟨⟨0, hn⟩, Finset.mem_univ _⟩ f
  exact ⟨l, hl.symm⟩

/-- The printed starting value of the minima is plus infinity. -/
theorem ofBits_top : Ideal.ofBits .f32 0x7F800000#32 = ⊤ := by simp [Ideal.ofBits, Ideal.ieee]

/-- The named constant is plus infinity. -/
theorem mask_top : Named.named (F := Ideal) κ "mask" (φ := .f32) 0x7F61B1E6#32 = (⊤ : EReal) :=
  IdealRules.named_const.ideal_named_scalar _ _ _ _ rfl

/-- The least of a query's lanes, as the kernel computes it. -/
theorem pay11_at (v : FVec Ideal S1024x128 .f32) (q : Fin 1024) :
    k0_pay11 (F := Ideal) v (ix2 q 0) = Finset.univ.fold min ⊤ fun l : Fin 128 => v (ix2 q l) := by
  unfold k0_pay11
  pointwise
  rw [ofBits_top]

/-- The index written for a query: the least entry among the lanes that hold the least value. -/
theorem pay12_at (v x : FVec Ideal S1024x128 .f32) (q : Fin 1024) :
    k0_pay12 (F := Ideal) v x (ix2 q 0) = Ideal.fptosi 32 (Finset.univ.fold min ⊤ fun l : Fin 128 =>
      if v (ix2 q l) = k0_pay11 (F := Ideal) v (ix2 q 0) then x (ix2 q l) else ⊤) := by
  unfold k0_pay12
  generalize k0_pay11 (F := Ideal) v = w
  pointwise
  rw [ofBits_top, mask_top]
  rfl

/-- The conversion of a small natural number to a word. -/
theorem fptosi_nat (n : ℕ) (hn : n < 2 ^ 31) : Ideal.fptosi 32 ((n : ℝ) : EReal) = BitVec.ofNat 32 n := by
  unfold Ideal.fptosi
  rw [Ideal.toIntClamped_coe]
  have h0 : (0 : ℝ) ≤ (n : ℝ) := Nat.cast_nonneg n
  rw [if_pos h0, Int.floor_natCast]
  have e : max (-((2 ^ (32 - 1) : ℕ) : ℤ)) (min (((2 ^ (32 - 1) : ℕ) : ℤ) - 1) (n : ℤ)) = (n : ℤ) := by
    norm_num
    omega
  rw [e]
  rfl

/-- From lanes that hold the least values over all the groups, the index written is the first index of the
    least value. -/
theorem pay12_first (D : ℕ → EReal) (b : Best Ideal) (q : Fin 1024) (N : ℕ) (hN : 128 * N < 2 ^ 31)
    (h : ∀ l, At D q l 0 N b) :
    ∃ u n, _root_.Nn.First (fun a => a < 128 * N) D u n ∧ k0_pay12 (F := Ideal) b.1 b.2 (ix2 q 0) = BitVec.ofNat 32 n := by
  have hu := fold_min (by norm_num) fun l : Fin 128 => b.1 (ix2 q l)
  rw [← pay11_at] at hu
  have hy := fold_min (by norm_num) fun l : Fin 128 =>
    if b.1 (ix2 q l) = k0_pay11 (F := Ideal) b.1 (ix2 q 0) then b.2 (ix2 q l) else ⊤
  obtain ⟨n, hn, hf⟩ := _root_.Nn.first_of_lanes (fun l => b.1 (ix2 q l)) (fun l => b.2 (ix2 q l)) h hu.1 hu.2 hy.1 hy.2
  refine ⟨_, n, hf, ?_⟩
  rw [pay12_at, hn, fptosi_nat n (hf.mem.trans hN)]

end Cert.KernelIdeal.Nn

end
-- ==== Proof.Dist.lean ====
module

public import proofs.«01_k».proof.Proof.Least
public import Idealize.ShloMosaic.Lib.Pointwise.Tactic

@[expose] public section

/-! # Squared distances

The squared distance of a query to a codeword, as the reference writes it, with plus infinity past the end of
the codebook; and the two ways of doubling a product that meet. -/

noncomputable section

namespace Nn

open Idealize.ShloMosaic

/-- The queries' shape. -/
abbrev QShape : Shape := ⟨2, ![1024, 16]⟩
/-- The codebook's shape. -/
abbrev CShape : Shape := ⟨2, ![1000000, 16]⟩

/-- The squared distance of query `q` to codeword `n`; plus infinity past the codebook's end. -/
def dist (x : FVec Ideal QShape .f32) (c : FVec Ideal CShape .f32) (q : Fin 1024) (n : ℕ) : EReal :=
  if h : n < 1000000 then
    (∑ k : Fin 16, x (ix2 q k) * x (ix2 q k)) - 2 * (∑ k : Fin 16, x (ix2 q k) * c (ix2 ⟨n, h⟩ k))
      + ∑ k : Fin 16, c (ix2 ⟨n, h⟩ k) * c (ix2 ⟨n, h⟩ k)
  else ⊤

/-- A value added to itself is twice the value. -/
theorem add_self (a : EReal) : a + a = 2 * a := by
  have h : ((2 : ℝ) : EReal) = 2 := by norm_cast
  induction a using EReal.rec with
  | bot => rw [EReal.bot_add, ← h, EReal.coe_mul_bot_of_pos (by norm_num)]
  | coe r => rw [← h]; norm_cast; ring
  | top => rw [← h, EReal.coe_mul_top_of_pos (by norm_num)]; rfl

/-- Twice a sum is the sum of the doubles. -/
theorem two_mul_sum {n : ℕ} (f : Fin n → EReal) : ∑ k, 2 * f k = 2 * ∑ k, f k := by
  have h : ((2 : ℝ) : EReal) = 2 := by norm_cast
  have hs : ∀ s : Finset (Fin n), ∑ k ∈ s, 2 * f k = 2 * ∑ k ∈ s, f k := by
    intro s
    induction s using Finset.induction_on with
    | empty => simp
    | insert a s ha ih =>
      rw [Finset.sum_insert ha, Finset.sum_insert ha, ih, ← h, EReal.left_distrib_of_nonneg_of_ne_top (by norm_num) (EReal.coe_ne_top _)]
  exact hs Finset.univ

/-- The product sum with one side doubled is twice the product sum. -/
theorem doubled_sum {n : ℕ} (f g : Fin n → EReal) : ∑ k, (f k + f k) * g k = 2 * ∑ k, f k * g k := by
  rw [← two_mul_sum]
  refine Finset.sum_congr rfl fun k _ => ?_
  rw [add_self, mul_assoc]

/-- A square is not negative. -/
theorem square_nonneg (a : EReal) : 0 ≤ a * a := by
  induction a using EReal.rec with
  | bot => rw [EReal.bot_mul_bot]; exact le_top
  | coe r => norm_cast; exact mul_self_nonneg r
  | top => rw [EReal.top_mul_top]; exact le_top

/-- A sum of squares is not minus infinity. -/
theorem sum_squares_ne_bot {n : ℕ} (f : Fin n → EReal) : ∑ k, f k * f k ≠ ⊥ := by
  have h : 0 ≤ ∑ k, f k * f k := Finset.sum_nonneg fun k _ => square_nonneg (f k)
  intro e
  rw [e] at h
  exact absurd h (by simp)

end Nn

end
-- ==== Proof.Points.lean ====
module

public import proofs.«01_k».proof.Proof.Outs
public import proofs.«01_k».proof.Proof.Dist

@[expose] public section

set_option maxRecDepth 16384

/-! # The distances of a block

At the extended reals: a block's distances at a query and a row, and its column numbers. -/

noncomputable section

namespace Cert.KernelIdeal.Nn

open Cert.KernelIdeal Cert.KernelIdeal.Gen
open Idealize.ShloMosaic

/-- The block's distances over masked rows, at an index. -/
theorem pay13_at (i : grid0.Coords) (x0 x1 : FVec Ideal S1024x16 .f32) (x2 : FVec Ideal S8192x16 .f32)
    (q : Fin 1024) (r : Fin 8192) :
    k0_pay13 (F := Ideal) i x0 x1 x2 (ix2 q r)
      = (∑ k : Fin 16, x0 (ix2 q k) * x0 (ix2 q k))
        - (∑ k : Fin 16, x1 (ix2 q k) * masked (F := Ideal) i x2 (ix2 r k))
        + if inside i (ix2 r 0) = 1#1 then ∑ k : Fin 16, masked (F := Ideal) i x2 (ix2 r k) * masked (F := Ideal) i x2 (ix2 r k) else ⊤ := by
  have e : k0_pay13 (F := Ideal) i x0 x1 x2 = addf (subf (broadcastTo S1024x8192 (shapeCast S1024x1 (multiReduction .add [1] S1024 (mulf x0 x0) 0x00000000#32 reduces_S1024x16_S1024 (.inl rfl) rfl : FVec Ideal S1024 .f32) shapeCasts_S1024_S1024x1) broadcasts_S1024x1_S1024x8192)
      (matmul dot_S1024x16_S8192x16_S1024x8192_1_1_0_0_n_n none (shapeCast S1024x16 x1 shapeCasts_S1024x16_S1024x16) (masked (F := Ideal) i x2) (constant S1024x8192 .f32 0x00000000#32)))
      (broadcastTo S1024x8192 (transpose S1x8192 [1, 0] (select (inside i)
        (shapeCast S8192x1 (multiReduction .add [1] S8192 (mulf (masked (F := Ideal) i x2) (masked (F := Ideal) i x2)) 0x00000000#32 reduces_S8192x16_S8192 (.inl rfl) rfl : FVec Ideal S8192 .f32) shapeCasts_S8192_S8192x1)
        (broadcast S8192x1 (Named.named κ "mask" 0x7F61B1E6#32))) transposes_S8192x1_p1_0_S1x8192) broadcasts_S1x8192_S1024x8192) := rfl
  rw [e]
  generalize masked (F := Ideal) i x2 = y
  generalize inside i = b
  pointwise
  rw [mask_top]
  rfl

/-- The block's column numbers, at an index. -/
theorem pay14_at (i : grid0.Coords) (x3 : FVec Ideal S1x8192 .f32) (r : Fin 8192) :
    k0_pay14 (F := Ideal) i x3 (ix2 0 r) = x3 (ix2 0 r) + (((8192 * (i 0).val : ℕ) : ℝ) : EReal) := by
  unfold k0_pay14
  pointwise
  have hi : (i 0).val < 123 := (i 0).isLt
  have e : Scalar.muli (BitVec.ofNat 32 (i 0).val) 8192#32 = BitVec.ofNat 32 (8192 * (i 0).val) := by
    change BitVec.ofNat 32 (i 0).val * BitVec.ofNat 32 8192 = _
    rw [← BitVec.ofNat_mul, Nat.mul_comm]
  rw [e, WordCmp.toInt_ofNat_of_lt (by omega)]
  norm_cast

/-- The distances of block `t` are the squared distances of the codewords it covers, plus infinity past the end. -/
theorem block_dist (t : Fin cfg0.N) (x : FVec Ideal S1024x16 .f32) (c : FVec Ideal S1000000x16 .f32)
    (x1 : FVec Ideal S1024x16 .f32) (x2 : FVec Ideal S8192x16 .f32)
    (h1 : ∀ q k, x1 (ix2 q k) = x (ix2 q k) + x (ix2 q k))
    (h2 : ∀ (r : Fin 8192) (k : Fin 16) (h : 8192 * t.val + r.val < 1000000), x2 (ix2 r k) = c (ix2 ⟨8192 * t.val + r.val, h⟩ k))
    (q : Fin 1024) (r : Fin 8192) :
    k0_pay13 (F := Ideal) (grid0.coords t) x x1 x2 (ix2 q r) = _root_.Nn.dist x c q (8192 * t.val + r.val) := by
  rw [pay13_at]
  unfold _root_.Nn.dist
  simp only [masked_apply, h1]
  by_cases h : 8192 * t.val + r.val < 1000000
  · have hb : inside (grid0.coords t) (ix2 r 0) = 1#1 := (inside_iff t r).mpr h
    rw [dif_pos h, if_pos hb]
    have hs : ∀ a z : EReal, Scalar.select (inside (grid0.coords t) (ix2 r 0)) a z = a := fun a z => if_pos hb
    simp only [hs, h2 r _ h]
    rw [_root_.Nn.doubled_sum]
  · have hb : ¬ inside (grid0.coords t) (ix2 r 0) = 1#1 := fun hb => h ((inside_iff t r).mp hb)
    rw [dif_neg h, if_neg hb]
    have hz : ∀ a : EReal, Scalar.select (inside (grid0.coords t) (ix2 r 0)) a (Scalar.ofBits (F := Ideal) .f32 0x00000000#32) = 0 :=
      fun a => (if_neg hb).trans Ideal.ofBits_zero_f32
    simp only [hz, mul_zero, Finset.sum_const_zero, sub_zero]
    exact EReal.add_top_of_ne_bot (_root_.Nn.sum_squares_ne_bot _)

end Cert.KernelIdeal.Nn

end
-- ==== Proof.Value.lean ====
module

public import proofs.«01_k».proof.Proof.Blocks
public import proofs.«01_k».proof.Proof.Points
public import proofs.«01_k».proof.Proof.Outs

@[expose] public section

set_option maxRecDepth 16384

/-! # What the kernel's index array holds

The scratch after each point holds, lane by lane, the nearest codeword seen so far; the index written for
a query at the end is the first nearest codeword. -/

noncomputable section

namespace Cert.KernelIdeal.Nn

open Cert.KernelIdeal Cert.KernelIdeal.Gen
open Idealize.ShloMosaic Idealize.ShloMosaic.TcCoe Idealize.ShloMosaic.Tactic
open Idealize.ShloMosaic.Rounds
open Idealize.SL.Sem

variable (m : (ℓ : Loc nD τ sig) → Buf (Elt Ideal) ℓ) (ρ : Dev nD → PrngReg)

/-- The queries. -/
abbrev queries (c : Dev nD) : FVec Ideal S1024x16 .f32 := m ((c : Thread nD τ).loc main_arg0)
/-- The codebook. -/
abbrev codes (c : Dev nD) : FVec Ideal S1000000x16 .f32 := m ((c : Thread nD τ).loc main_arg1)

/-- A column's number, at the extended reals. -/
theorem column_real (r : Fin 8192) : (FloatOps.sitofp .f32 (BitVec.ofNat 32 r.val) : Ideal .f32) = (((r.val : ℕ) : ℝ) : EReal) := by
  change (((BitVec.ofNat 32 r.val).toInt : ℝ) : EReal) = _
  rw [WordCmp.toInt_ofNat_of_lt (by have := r.isLt; omega)]
  norm_cast

/-- The candidates of one block are the nearest codewords in it, lane by lane. -/
theorem cand_at (c : Dev nD) (t : Fin cfg0.N) (q : Fin 1024) (l : Fin 128) :
    At (_root_.Nn.dist (queries m c) (codes m c) q) q l (64 * t.val) (64 * (t.val + 1)) (cand m c t) := by
  refine best_at _ _ _ t.val q l (fun r => ?_) (fun r => ?_)
  · have e : iblk m c 0 t = queries m c := by
      funext j
      idx_vars j
      exact block_queries m c t j0 j1
    rw [e]
    exact block_dist t (queries m c) (codes m c) _ _ (fun q k => block_doubled m c t q k)
      (fun r k h => block_rows m c t r k h) q r
  · rw [pay14_at, coord, block_columns, column_real]
    norm_cast
    rw [Nat.add_comm]

/-- After `n` points the scratch holds the nearest of the codewords of the blocks seen, lane by lane. -/
theorem acc_at (c : Dev nD) (q : Fin 1024) (l : Fin 128) : ∀ n : ℕ, n < cfg0.N →
    At (_root_.Nn.dist (queries m c) (codes m c) q) q l 0 (64 * (n + 1)) (acc m c (n + 1))
  | 0, h => by
    have e := acc_succ m c ⟨0, h⟩
    have hl : ¬ isLater (grid0.coords ⟨0, h⟩) := fun g => (later_iff ⟨0, h⟩).mp g rfl
    unfold nextBest at e
    rw [if_neg hl] at e
    rw [show acc m c (0 + 1) = _ from e]
    exact cand_at m c ⟨0, h⟩ q l
  | n + 1, h => by
    have e := acc_succ m c ⟨n + 1, h⟩
    have hl : isLater (grid0.coords ⟨n + 1, h⟩) := (later_iff ⟨n + 1, h⟩).mpr (Nat.succ_ne_zero n)
    unfold nextBest at e
    rw [if_pos hl] at e
    rw [show acc m c (n + 1 + 1) = _ from e]
    exact At.better (Nat.zero_le _) (by omega) (acc_at c q l n (by omega)) (cand_at m c ⟨n + 1, h⟩ q l)

/-- What the kernel leaves in its index array. -/
def found (c : Dev nD) : IVec S1024x1 32 := k0_pay12 (F := Ideal) (acc m c 123).1 (acc m c 123).2

/-- The index left for a query is that of the first nearest codeword. -/
theorem found_first (c : Dev nD) (q : Fin 1024) :
    ∃ u n, _root_.Nn.First (fun a => a < 1000000) (_root_.Nn.dist (queries m c) (codes m c) q) u n
      ∧ found m c (ix2 q 0) = BitVec.ofNat 32 n := by
  obtain ⟨u, n, h, e⟩ := pay12_first (_root_.Nn.dist (queries m c) (codes m c) q) (acc m c 123) q (64 * 123)
    (by norm_num) (fun l => acc_at m c q l 122 (by decide))
  refine ⟨u, n, ?_, e⟩
  exact _root_.Nn.First.shrink (by norm_num) (by norm_num) (fun k hk => dif_neg (by omega)) h

/-- The last point. -/
def lastPoint : Fin cfg0.N := ⟨122, by decide⟩

/-- The index array after the whole grid. -/
theorem arr_found (c : Dev nD) : (dats m 0 c).arrAt 5 cfg0.N = found m c := by
  refine (dats m 0 c).arrAt_eq_of_after_last 5 lastPoint (by decide +kernel) _ fun j => ?_
  rw [(dats_after m c lastPoint).2.2.2.2.2]
  blk_simp
  rfl

/-- The whole program: the index array holds the first nearest codewords and the arguments are kept. -/
theorem run_found : θ_run defs (onTc (τ := τ) (main (F := Ideal))) ⟨m, fun _ => 0, ρ⟩ (fun r => ∀ c : Dev nD,
      r.2.mem ((c.tc : Thread nD τ).loc main_v3_1) = found m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h.1 c).1 5).trans (arr_found m c),
      ((h.1 c).1 0).trans (((dats m 0 c).arrAt_in 0 rfl _).trans ((dats_A m c 0).trans (V_main_arg0 m c))),
      ((h.1 c).1 2).trans (((dats m 0 c).arrAt_in 2 rfl _).trans ((dats_A m c 2).trans (V_main_arg1 m c)))⟩) (run m ρ)

end Cert.KernelIdeal.Nn

end
-- ==== Proof.Sort.lean ====
module

public import proofs.«01_k».proof.Proof.Least
public import Idealize.ShloMosaic.PureOps
public import Idealize.ShloMosaic.Lib.Pointwise.Tactic
public import Mathlib.Data.List.FinRange

@[expose] public section

set_option maxRecDepth 16384

/-! # The head of a stable sort

A stable sort by a key puts the first position of the least key in front, so the first index of the
reference's top-k is that of the first least entry. -/

noncomputable section

namespace Nn

open Idealize.ShloMosaic

/-- The head of a stable sort of positions in ascending order: none has a smaller key, and none with the
    same key comes earlier. -/
theorem sort_head {n : ℕ} (D : ℕ → EReal) (before : Fin n → Fin n → Bool)
    (hb : ∀ i j, before i j = true ↔ D i.val < D j.val) : ∀ l : List (Fin n), l.Pairwise (· < ·) → l ≠ [] →
    ∃ a s, stableSort before l = a :: s ∧ a ∈ l ∧ ∀ b ∈ l, D a.val ≤ D b.val ∧ (D b.val = D a.val → a ≤ b)
  | [], _, h => absurd rfl h
  | [x], _, _ => ⟨x, [], rfl, List.mem_singleton.mpr rfl, fun b h => by rw [List.mem_singleton.mp h]; exact ⟨le_refl _, fun _ => le_refl _⟩⟩
  | x :: y :: l, hl, _ => by
    rw [List.pairwise_cons] at hl
    obtain ⟨a, s, es, ha, hm⟩ := sort_head D before hb (y :: l) hl.2 (List.cons_ne_nil _ _)
    have e : stableSort before (x :: y :: l) = insertBefore before x (a :: s) := by rw [← es]; rfl
    by_cases h : before a x = true
    · refine ⟨a, insertBefore before x s, ?_, List.mem_cons_of_mem _ ha, ?_⟩
      · rw [e, insertBefore, if_pos h]
      · intro b hbm
        rw [hb] at h
        rcases List.mem_cons.mp hbm with rfl | hbm
        · exact ⟨h.le, fun q => absurd h (by rw [q]; exact lt_irrefl _)⟩
        · exact hm b hbm
    · refine ⟨x, a :: s, ?_, List.mem_cons_self, ?_⟩
      · rw [e, insertBefore, if_neg h]
      · intro b hbm
        rw [hb, not_lt] at h
        rcases List.mem_cons.mp hbm with rfl | hbm
        · exact ⟨le_refl _, fun _ => le_refl _⟩
        · exact ⟨h.trans (hm b hbm).1, fun _ => (hl.1 b hbm).le⟩

/-- The position a stable sort by a key puts in front is the first position of the least key. -/
theorem sorted_first {n : ℕ} (D : ℕ → EReal) (before : Fin n → Fin n → Bool)
    (hb : ∀ i j, before i j = true ↔ D i.val < D j.val) (k : Fin n) (hk : k.val = 0) :
    First (fun a => a < n) D (D (sortedFrom before k).val) (sortedFrom before k).val := by
  obtain ⟨a, s, e, -, hm⟩ := sort_head D before hb (List.finRange n) (List.pairwise_lt_finRange n)
    (by intro h; have := k.isLt; have g := congrArg List.length h; rw [List.length_finRange] at g; simp at g; omega)
  have front : ∀ (l : List (Fin n)) (i : ℕ) (h : i < l.length), l = a :: s → i = 0 → l[i] = a := by
    rintro l i h rfl rfl
    rfl
  have ea : sortedFrom before k = a := front _ _ _ e hk
  rw [ea]
  exact ⟨a.isLt, rfl, fun b hbn => (hm ⟨b, hbn⟩ (List.mem_finRange _)).1,
    fun b hbn q => (hm ⟨b, hbn⟩ (List.mem_finRange _)).2 q⟩

/-- The column numbers, sorted along with an array's rows: each is the column its row's entry came from. -/
theorem sort_numbers {r n : ℕ} (y : FVec Ideal ⟨2, ![r, n]⟩ .f32) (q : Fin r) (j : Shape.Idx ⟨2, ![r, n]⟩) (hj : j 0 = q) :
    (Host.sort2 ⟨2, ![r, n]⟩ 1 (fun l r => FloatOps.cmpfTotal .gt l.1 r.1) y fun i => BitVec.ofNat 32 (i 1).val).2 j
      = BitVec.ofNat 32 (sortedFrom (fun i k => FloatOps.cmpfTotal (F := Ideal) (φ := .f32) .gt (y (ix2 q i)) (y (ix2 q k)) == 1#1) (j 1)).val := by
  have along : ∀ k : Fin n, Shape.Idx.along j 1 k = ix2 q k := by
    intro k
    funext a
    unfold Shape.Idx.along
    fin_cases a
    · exact (dif_neg (show ¬ (0 : Fin 2) = 1 by decide)).trans hj
    · exact dif_pos rfl
  have e : (fun i k : Fin n => FloatOps.cmpfTotal (F := Ideal) (φ := .f32) .gt (y (ix2 q i)) (y (ix2 q k)) == 1#1)
      = fun i k : Fin n => FloatOps.cmpfTotal (F := Ideal) (φ := .f32) .gt (y (Shape.Idx.along j 1 i)) (y (Shape.Idx.along j 1 k)) == 1#1 := by
    funext i k
    rw [along, along]
  rw [e]
  unfold Host.sort2
  rw [dif_pos (Nat.lt_succ_self 1)]
  exact congrArg (BitVec.ofNat 32 ·.val) (Function.update_self (f := j) (1 : Fin 2) _)

/-- The index the top-k by the negated keys gives a row is that of the row's first least key. -/
theorem topK_first {r n : ℕ} (y : FVec Ideal ⟨2, ![r, n]⟩ .f32) (D : ℕ → EReal) (q : Fin r) (hn : 0 < n)
    (hy : ∀ k : Fin n, y (ix2 q k) = - D k.val) (h) :
    ∃ u k, First (fun a => a < n) D u k
      ∧ (Host.topK ⟨2, ![r, 1]⟩ 1 (FloatOps.cmpfTotal .gt) y h).2 (ix2 q 0) = BitVec.ofNat 32 k := by
  refine ⟨_, _, sorted_first D (fun i j => (FloatOps.cmpfTotal (F := Ideal) (φ := .f32) .gt (y (ix2 q i)) (y (ix2 q j))) == 1#1) (fun i j => ?_) ⟨0, hn⟩ rfl, ?_⟩
  · change (BitVec.ofBool (decide (y (ix2 q j) < y (ix2 q i))) == 1#1) = true ↔ _
    have g : y (ix2 q j) < y (ix2 q i) ↔ D i.val < D j.val := by rw [hy, hy, EReal.neg_lt_neg_iff]
    rw [← g]
    by_cases g : y (ix2 q j) < y (ix2 q i) <;> simp [g]
  · unfold Host.topK
    dsimp only
    pointwise
    exact sort_numbers y q _ rfl

end Nn

end
-- ==== Proof.Reference.lean ====
module

public import proofs.«01_k».proof.Proof.Sort
public import proofs.«01_k».proof.Proof.Dist
public import proofs.«01_k».proof.Proof.Gen.ReferenceIdeal.Run
public import Idealize.ShloMosaic.Lib.Pointwise.Reduce
public import Idealize.ShloMosaic.Lib.Pointwise.ReduceUnfold
public import Idealize.ShloMosaic.Lib.Pointwise.Contract

@[expose] public section

set_option maxRecDepth 16384

/-! # What the reference computes

The reference's distances, entry by entry, and the index its top-k gives a query. -/

noncomputable section

namespace Cert.ReferenceIdeal.Nn

open Cert.ReferenceIdeal Cert.ReferenceIdeal.Gen
open Idealize.ShloMosaic Idealize.ShloMosaic.TcCoe

/-- The constant two. -/
theorem ofBits_two : Ideal.ofBits .f32 0x40000000#32 = 2 := by
  simp [Ideal.ofBits, Ideal.ieee]
  rw [← EReal.coe_mul]
  norm_num
  rfl

/-- The negated distances, as the reference writes them. -/
def negated (x : FVec Ideal S1024x16 .f32) (c : FVec Ideal S1000000x16 .f32) : FVec Ideal S1024x1000000 .f32 :=
  Host.negf (addf (subf (broadcastInDim S1024x1000000 ![0, 1] bcast_S1024x1_S1024x1000000_0_1 (broadcastInDim S1024x1 ![0] bcast_S1024_S1024x1_0 (Host.reduceAdd (mulf x x) (constant S_ .f32 0x00000000#32) reducesTo_S1024x16_S1024_d1 h_S_))) (mulf (broadcastInDim S1024x1000000 ![] bcast_S_S1024x1000000 (constant S_ .f32 0x40000000#32)) (Host.dotGeneral dot_S1024x16_S16x1000000_S1024x1000000_1_0_0_1_n_n none x (transpose S16x1000000 [1, 0] c transposes_S1000000x16_S16x1000000_1_0)))) (broadcastInDim S1024x1000000 ![0, 1] bcast_S1x1000000_S1024x1000000_0_1 (broadcastInDim S1x1000000 ![1] bcast_S1000000_S1x1000000_1 (Host.reduceAdd (mulf c c) (constant S_ .f32 0x00000000#32) reducesTo_S1000000x16_S1000000_d1 h_S_))))

/-- Each entry is the negated distance of its query to its codeword. -/
theorem negated_at (x : FVec Ideal S1024x16 .f32) (c : FVec Ideal S1000000x16 .f32) (q : Fin 1024) (n : Fin 1000000) :
    negated x c (ix2 q n) = - _root_.Nn.dist x c q n.val := by
  unfold negated _root_.Nn.dist
  rw [dif_pos n.isLt]
  pointwise
  rw [ofBits_two]

/-- The indices the reference returns. -/
def chosen (x : FVec Ideal S1024x16 .f32) (c : FVec Ideal S1000000x16 .f32) : IVec S1024x1 32 :=
  (Host.topK S1024x1 1 (FloatOps.cmpfTotal .gt) (negated x c) sliceFits_S1024x1000000_S1024x1).2

/-- The index returned for a query is that of the first nearest codeword. -/
theorem chosen_first (x : FVec Ideal S1024x16 .f32) (c : FVec Ideal S1000000x16 .f32) (q : Fin 1024) :
    ∃ u n, _root_.Nn.First (fun a => a < 1000000) (_root_.Nn.dist x c q) u n ∧ chosen x c (ix2 q 0) = BitVec.ofNat 32 n :=
  _root_.Nn.topK_first (negated x c) _ q (by norm_num) (negated_at x c q) _

end Cert.ReferenceIdeal.Nn

end
-- ==== Proof.Same.lean ====
module
public import proofs.«01_k».proof.Defs
public import Idealize.ShloMosaic.Init
@[expose] public section
set_option maxRecDepth 16384
noncomputable section
namespace Cert.Same
open Idealize.ShloMosaic Idealize.SL.Sem

/-- At the chip's floats a named constant is the constant printed. -/
@[instance_reducible] def printed : Named Bits := ⟨fun _ _ _ b => FloatOps.ofBits _ b⟩

section
variable [h : Cert.Kernel.Facts] [h' : Cert.KernelIdeal.Facts]
attribute [local instance] printed
/-- The host program as printed is the idealized one read at the chip's floats. -/
theorem main_eq : Cert.Kernel.main (F := Bits) = Cert.KernelIdeal.main (F := Bits) := by
  rfl
/-- The body of a point as printed is the idealized one read at the chip's floats. -/
theorem step_eq : Cert.Kernel.cc0__knn_step (F := Bits) = Cert.KernelIdeal.cc0__knn_step (F := Bits) := by
  rfl
/-- So is the table of bodies. -/
theorem defs0_eq : Cert.Kernel.defs₀ (F := Bits) = Cert.KernelIdeal.defs₀ (F := Bits) := by
  unfold Cert.Kernel.defs₀ Cert.KernelIdeal.defs₀
  rw [step_eq]
  refine congrArg Defs.onTc (funext fun l => funext fun a => ?_)
  match l, a with
  | 0, (t, s) => rfl
/-- And so is the table of all the calls. -/
theorem defs_eq : Cert.Kernel.defs (F := Bits) = Cert.KernelIdeal.defs (F := Bits) := by
  unfold Cert.Kernel.defs Cert.KernelIdeal.defs
  rw [defs0_eq]
  rfl
end
end Cert.Same
end
-- ==== Proof.Frames.lean ====
module

public import proofs.«01_k».proof.Proof.Frame
public import proofs.«01_k».proof.Proof.Same
public import proofs.«01_k».proof.Proof.Gen.ReferenceIdeal.Run
public import proofs.«01_k».proof.Proof.Gen.Kernel.Skeleton

@[expose] public section

set_option maxRecDepth 16384

/-! # The frames, and the named constant

The frame of the kernel as printed is that of the idealized kernel read at the chip's floats. -/

noncomputable section

namespace Cert.Proof

open Idealize.ShloMosaic Idealize.SL.Sem

section
attribute [local instance] Cert.Same.printed

/-- The kernel as printed leaves its arguments unchanged and every counter at zero. -/
theorem frame_kernel : Cert.quiescent_Kernel (hKernel := Cert.Kernel.Gen.facts) := by
  letI := Cert.Kernel.Gen.facts
  letI := Cert.KernelIdeal.Gen.facts
  intro m g _
  rw [Cert.Same.main_eq, Cert.Same.defs_eq]
  exact Cert.KernelIdeal.Nn.quiet (F := Bits) m g

end

/-- The idealized kernel leaves its arguments unchanged and every counter at zero. -/
theorem frame_ideal : Cert.quiescent_KernelIdeal (hKernelIdeal := Cert.KernelIdeal.Gen.facts) :=
  fun m g _ => Cert.KernelIdeal.Nn.quiet (F := Ideal) m g

/-- The reference leaves its arguments unchanged and every counter at zero. -/
theorem frame_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩)
    (Cert.ReferenceIdeal.Value.run (F := Ideal) m g)

/-- The one constant replaced: the table gives the mask the value plus infinity. -/
theorem preserves : Cert.preserves_Kernel_KernelIdeal :=
  IdealRules.named_const.statement Cert.KernelIdeal.κ "mask" .f32 0x7F61B1E6#32 ⊤ rfl

end Cert.Proof

end
-- ==== Proof.Equation.lean ====
module

public import proofs.«01_k».proof.Proof.Value
public import proofs.«01_k».proof.Proof.Reference
public import proofs.«01_k».proof.Proof.Frames

@[expose] public section

set_option maxRecDepth 16384

/-! # The kernel's result is the reference's -/

noncomputable section

namespace Cert.Proof

open Idealize.ShloMosaic Idealize.ShloMosaic.TcCoe Idealize.SL.Sem

/-- Both return, for each query, the first nearest codeword, and there is one. -/
theorem found_eq_chosen (m : (ℓ : Loc Cert.KernelIdeal.nD Cert.KernelIdeal.τ Cert.KernelIdeal.sig) → Buf (Elt Ideal) ℓ)
    (c : Dev Cert.KernelIdeal.nD) :
    Cert.KernelIdeal.Nn.found m c = Cert.ReferenceIdeal.Nn.chosen (Cert.KernelIdeal.Nn.queries m c) (Cert.KernelIdeal.Nn.codes m c) := by
  funext j
  idx_vars j
  obtain rfl : j1 = 0 := Subsingleton.elim _ _
  obtain ⟨u, n, hn, en⟩ := Cert.KernelIdeal.Nn.found_first m c j0
  obtain ⟨v, k, hk, ek⟩ := Cert.ReferenceIdeal.Nn.chosen_first (Cert.KernelIdeal.Nn.queries m c) (Cert.KernelIdeal.Nn.codes m c) j0
  rw [en, ek, hn.unique hk]

/-- From the same arguments the idealized kernel and the reference return the same indices. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨fun c => Cert.KernelIdeal.Nn.found m c, Cert.KernelIdeal.Nn.run_found m g, ?_⟩
  refine (θ_run Cert.ReferenceIdeal.defs _ _).mono (fun r h c => ⟨?_, (h c).2⟩) (Cert.ReferenceIdeal.Value.run (F := Ideal) m' g')
  rw [(h c).1, (hagree c).1, (hagree c).2]
  exact (found_eq_chosen m c).symm

end Cert.Proof

end
-- ==== Proof.lean ====
module

public import proofs.«01_k».proof.Defs
public import proofs.«01_k».proof.Proof.Equation

@[expose] public section

/-! # The certificate -/

noncomputable section

namespace Cert.Proof

/-- Every claim of the certificate. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
